-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1536 : Shape := ⟨3, ![4, 256, 1536]⟩
abbrev S4x256 : Shape := ⟨2, ![4, 256]⟩
abbrev S1536x8960 : Shape := ⟨2, ![1536, 8960]⟩
abbrev S768x8960 : Shape := ⟨2, ![768, 8960]⟩
abbrev S12x8960 : Shape := ⟨2, ![12, 8960]⟩
abbrev S1536x24 : Shape := ⟨2, ![1536, 24]⟩
abbrev S24x8960 : Shape := ⟨2, ![24, 8960]⟩
abbrev S1024x1536 : Shape := ⟨2, ![1024, 1536]⟩
abbrev S1024x24 : Shape := ⟨2, ![1024, 24]⟩
abbrev S1536x1280 : Shape := ⟨2, ![1536, 1280]⟩
abbrev S768x1280 : Shape := ⟨2, ![768, 1280]⟩
abbrev S12x1280 : Shape := ⟨2, ![12, 1280]⟩
abbrev S24x1280 : Shape := ⟨2, ![24, 1280]⟩
abbrev S1024x128 : Shape := ⟨2, ![1024, 128]⟩
abbrev S1x128 : Shape := ⟨2, ![1, 128]⟩
abbrev S128x128 : Shape := ⟨2, ![128, 128]⟩
abbrev S6x1280 : Shape := ⟨2, ![6, 1280]⟩
abbrev S6x1x1280 : Shape := ⟨3, ![6, 1, 1280]⟩
abbrev S6x128x1280 : Shape := ⟨3, ![6, 128, 1280]⟩
abbrev S1024x1280 : Shape := ⟨2, ![1024, 1280]⟩
abbrev S128 : Shape := ⟨1, ![128]⟩

abbrev nBuf : Space → Nat
  | .hbm => 12
  | .vmem => 21
  | .smem => 0
  | _ => 0

abbrev bufTy : (tb : Table) → Fin (tcTables nBuf tb) → BufTy
  | .hbm, ⟨0, _⟩ => ⟨S4x256x1536, .fp8e4m3⟩
  | .hbm, ⟨1, _⟩ => ⟨S4x256, .f32⟩
  | .hbm, ⟨2, _⟩ => ⟨S1536x8960, .bf16⟩
  | .hbm, ⟨3, _⟩ => ⟨S768x8960, .i8⟩
  | .hbm, ⟨4, _⟩ => ⟨S12x8960, .bf16⟩
  | .hbm, ⟨5, _⟩ => ⟨S1536x24, .bf16⟩
  | .hbm, ⟨6, _⟩ => ⟨S24x8960, .bf16⟩
  | .hbm, ⟨7, _⟩ => ⟨S1024x1536, .fp8e4m3⟩
  | .hbm, ⟨8, _⟩ => ⟨S4x256, .f32⟩
  | .hbm, ⟨9, _⟩ => ⟨S1024x24, .f32⟩
  | .hbm, ⟨10, _⟩ => ⟨S1536x24, .f32⟩
  | .hbm, ⟨11, _⟩ => ⟨S24x8960, .f32⟩
  | .local _ .vmem, ⟨0, _⟩ => ⟨S1024x1536, .fp8e4m3⟩
  | .local _ .vmem, ⟨1, _⟩ => ⟨S4x256, .f32⟩
  | .local _ .vmem, ⟨2, _⟩ => ⟨S1536x1280, .bf16⟩
  | .local _ .vmem, ⟨3, _⟩ => ⟨S1536x1280, .bf16⟩
  | .local _ .vmem, ⟨4, _⟩ => ⟨S768x1280, .i8⟩
  | .local _ .vmem, ⟨5, _⟩ => ⟨S768x1280, .i8⟩
  | .local _ .vmem, ⟨6, _⟩ => ⟨S12x1280, .bf16⟩
  | .local _ .vmem, ⟨7, _⟩ => ⟨S12x1280, .bf16⟩
  | .local _ .vmem, ⟨8, _⟩ => ⟨S1536x24, .bf16⟩
  | .local _ .vmem, ⟨9, _⟩ => ⟨S24x1280, .bf16⟩
  | .local _ .vmem, ⟨10, _⟩ => ⟨S24x1280, .bf16⟩
  | .local _ .vmem, ⟨11, _⟩ => ⟨S4x256, .f32⟩
  | .local _ .vmem, ⟨12, _⟩ => ⟨S1024x24, .f32⟩
  | .local _ .vmem, ⟨13, _⟩ => ⟨S1536x24, .f32⟩
  | .local _ .vmem, ⟨14, _⟩ => ⟨S24x1280, .f32⟩
  | .local _ .vmem, ⟨15, _⟩ => ⟨S24x1280, .f32⟩
  | .local _ .vmem, ⟨16, _⟩ => ⟨S1024x1536, .bf16⟩
  | .local _ .vmem, ⟨17, _⟩ => ⟨S1024x128, .f32⟩
  | .local _ .vmem, ⟨18, _⟩ => ⟨S1536x1280, .bf16⟩
  | .local _ .vmem, ⟨19, _⟩ => ⟨S1024x24, .bf16⟩
  | .local _ .vmem, ⟨20, _⟩ => ⟨S1024x128, .f32⟩
  | _, _ => ⟨S4x256x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v109 : BitVec 1 := Scalar.cmpi .eq arg0 c6_i32
  let v110 : BitVec 32 := Scalar.extui v109
  let c0_i32_43 : BitVec 32 := 0#32
  let v111 : BitVec 1 := Scalar.cmpi .ne v110 c0_i32_43
  v111

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x24 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S24x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S24x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x256x1536 : Shape := ⟨3, ![4, 256, 1536]⟩
abbrev S4x256 : Shape := ⟨2, ![4, 256]⟩
abbrev S1536x8960 : Shape := ⟨2, ![1536, 8960]⟩
abbrev S768x8960 : Shape := ⟨2, ![768, 8960]⟩
abbrev S12x8960 : Shape := ⟨2, ![12, 8960]⟩
abbrev S1536x24 : Shape := ⟨2, ![1536, 24]⟩
abbrev S24x8960 : Shape := ⟨2, ![24, 8960]⟩
abbrev S_ : Shape := ⟨0, ![]⟩
abbrev S6x8960 : Shape := ⟨2, ![6, 8960]⟩
abbrev S6x128x8960 : Shape := ⟨3, ![6, 128, 8960]⟩
abbrev S4x256x1 : Shape := ⟨3, ![4, 256, 1]⟩
abbrev S4x256x768 : Shape := ⟨3, ![4, 256, 768]⟩
abbrev S4x256x8960 : Shape := ⟨3, ![4, 256, 8960]⟩
abbrev S4x256x24 : Shape := ⟨3, ![4, 256, 24]⟩
abbrev S1024x24 : Shape := ⟨2, ![1024, 24]⟩

abbrev nBuf : Space → Nat
  | .hbm => 75
  | .vmem => 2
  | .smem => 0
  | _ => 0

abbrev bufTy : (tb : Table) → Fin (tcTables nBuf tb) → BufTy
  | .hbm, ⟨0, _⟩ => ⟨S4x256x1536, .fp8e4m3⟩
  | .hbm, ⟨1, _⟩ => ⟨S4x256, .f32⟩
  | .hbm, ⟨2, _⟩ => ⟨S1536x8960, .bf16⟩
  | .hbm, ⟨3, _⟩ => ⟨S768x8960, .i8⟩
  | .hbm, ⟨4, _⟩ => ⟨S12x8960, .bf16⟩
  | .hbm, ⟨5, _⟩ => ⟨S1536x24, .bf16⟩
  | .hbm, ⟨6, _⟩ => ⟨S24x8960, .bf16⟩
  | .hbm, ⟨7, _⟩ => ⟨S4x256x1536, .bf16⟩
  | .hbm, ⟨8, _⟩ => ⟨S768x8960, .i32⟩
  | .hbm, ⟨9, _⟩ => ⟨S_, .i32⟩
  | .hbm, ⟨10, _⟩ => ⟨S768x8960, .i32⟩
  | .hbm, ⟨11, _⟩ => ⟨S768x8960, .i32⟩
  | .hbm, ⟨12, _⟩ => ⟨S_, .i32⟩
  | .hbm, ⟨13, _⟩ => ⟨S768x8960, .i32⟩
  | .hbm, ⟨14, _⟩ => ⟨S768x8960, .i32⟩
  | .hbm, ⟨15, _⟩ => ⟨S_, .i32⟩
  | .hbm, ⟨16, _⟩ => ⟨S768x8960, .i32⟩
  | .hbm, ⟨17, _⟩ => ⟨S768x8960, .i32⟩
  | .hbm, ⟨18, _⟩ => ⟨S_, .i32⟩
  | .hbm, ⟨19, _⟩ => ⟨S768x8960, .i32⟩
  | .hbm, ⟨20, _⟩ => ⟨S768x8960, .i32⟩
  | .hbm, ⟨21, _⟩ => ⟨S_, .i32⟩
  | .hbm, ⟨22, _⟩ => ⟨S768x8960, .i32⟩
  | .hbm, ⟨23, _⟩ => ⟨S768x8960, .i32⟩
  | .hbm, ⟨24, _⟩ => ⟨S_, .i32⟩
  | .hbm, ⟨25, _⟩ => ⟨S768x8960, .i32⟩
  | .hbm, ⟨26, _⟩ => ⟨S768x8960, .i32⟩
  | .hbm, ⟨27, _⟩ => ⟨S_, .i32⟩
  | .hbm, ⟨28, _⟩ => ⟨S768x8960, .i32⟩
  | .hbm, ⟨29, _⟩ => ⟨S768x8960, .i32⟩
  | .hbm, ⟨30, _⟩ => ⟨S768x8960, .bf16⟩
  | .hbm, ⟨31, _⟩ => ⟨S6x8960, .bf16⟩
  | .hbm, ⟨32, _⟩ => ⟨S768x8960, .bf16⟩
  | .hbm, ⟨33, _⟩ => ⟨S6x128x8960, .bf16⟩
  | .hbm, ⟨34, _⟩ => ⟨S768x8960, .bf16⟩
  | .hbm, ⟨35, _⟩ => ⟨S768x8960, .bf16⟩
  | .hbm, ⟨36, _⟩ => ⟨S768x8960, .bf16⟩
  | .hbm, ⟨37, _⟩ => ⟨S768x8960, .bf16⟩
  | .hbm, ⟨38, _⟩ => ⟨S6x8960, .bf16⟩
  | .hbm, ⟨39, _⟩ => ⟨S768x8960, .bf16⟩
  | .hbm, ⟨40, _⟩ => ⟨S6x128x8960, .bf16⟩
  | .hbm, ⟨41, _⟩ => ⟨S768x8960, .bf16⟩
  | .hbm, ⟨42, _⟩ => ⟨S768x8960, .bf16⟩
  | .hbm, ⟨43, _⟩ => ⟨S768x8960, .bf16⟩
  | .hbm, ⟨44, _⟩ => ⟨S4x256x1, .f32⟩
  | .hbm, ⟨45, _⟩ => ⟨S4x256x768, .bf16⟩
  | .hbm, ⟨46, _⟩ => ⟨S4x256x8960, .f32⟩
  | .hbm, ⟨47, _⟩ => ⟨S4x256x768, .bf16⟩
  | .hbm, ⟨48, _⟩ => ⟨S4x256x8960, .f32⟩
  | .hbm, ⟨49, _⟩ => ⟨S4x256x8960, .f32⟩
  | .hbm, ⟨50, _⟩ => ⟨S4x256x8960, .f32⟩
  | .hbm, ⟨51, _⟩ => ⟨S4x256x8960, .f32⟩
  | .hbm, ⟨52, _⟩ => ⟨S4x256x24, .f32⟩
  | .hbm, ⟨53, _⟩ => ⟨S4x256x24, .f32⟩
  | .hbm, ⟨54, _⟩ => ⟨S4x256x24, .f32⟩
  | .hbm, ⟨55, _⟩ => ⟨S4x256x24, .bf16⟩
  | .hbm, ⟨56, _⟩ => ⟨S4x256x8960, .f32⟩
  | .hbm, ⟨57, _⟩ => ⟨S4x256x8960, .f32⟩
  | .hbm, ⟨58, _⟩ => ⟨S4x256x8960, .f32⟩
  | .hbm, ⟨59, _⟩ => ⟨S_, .f32⟩
  | .hbm, ⟨60, _⟩ => ⟨S4x256, .f32⟩
  | .hbm, ⟨61, _⟩ => ⟨S4x256x8960, .bf16⟩
  | .hbm, ⟨62, _⟩ => ⟨S4x256x24, .f32⟩
  | .hbm, ⟨63, _⟩ => ⟨S4x256x24, .f32⟩
  | .hbm, ⟨64, _⟩ => ⟨S4x256x24, .f32⟩
  | .hbm, ⟨65, _⟩ => ⟨S4x256x24, .bf16⟩
  | .hbm, ⟨66, _⟩ => ⟨S1536x24, .f32⟩
  | .hbm, ⟨67, _⟩ => ⟨S_, .f32⟩
  | .hbm, ⟨68, _⟩ => ⟨S1536x24, .f32⟩
  | .hbm, ⟨69, _⟩ => ⟨S1536x24, .f32⟩
  | .hbm, ⟨70, _⟩ => ⟨S24x8960, .f32⟩
  | .hbm, ⟨71, _⟩ => ⟨S_, .f32⟩
  | .hbm, ⟨72, _⟩ => ⟨S24x8960, .f32⟩
  | .hbm, ⟨73, _⟩ => ⟨S24x8960, .f32⟩
  | .hbm, ⟨74, _⟩ => ⟨S1024x24, .f32⟩
  | .local _ .vmem, ⟨0, _⟩ => ⟨S4x256x1536, .fp8e4m3⟩
  | .local _ .vmem, ⟨1, _⟩ => ⟨S4x256x1536, .bf16⟩
  | _, _ => ⟨S4x256x1536, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x256x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Spec.lean ====
/- The mathematics of the step over the extended reals, with no program in it. -/
module

public import Idealize.ShloMosaic.PureOps.Ideal
public import Idealize.ShloMosaic.Lib.Pointwise

@[expose] public section

noncomputable section

namespace Cert.LowRank

open Idealize.ShloMosaic
open scoped BigOperators

/-- A four-bit two's complement word held in 32 bits, as an extended real. -/
def codeVal (w : BitVec 32) : EReal := FloatOps.sitofp (F := Ideal) .f32 ((w ^^^ 8#32) - 8#32)

/-- The code in the low half of a byte. -/
def loCode (q : BitVec 8) : EReal := codeVal (BitVec.setWidth 32 q &&& 15#32)

/-- The code in the high half of a byte. -/
def hiCode (q : BitVec 8) : EReal := codeVal ((BitVec.setWidth 32 q).sshiftRight 4 &&& 15#32)

/-- The constant the two gradients are multiplied by. -/
def negTwo : EReal := Scalar.ofBits (F := Ideal) .f32 0xC0000000#32

/-- The arguments as functions of their coordinates: tokens, token scales, weights, bytes of two codes, code scales
    and the two low-rank factors. The token number is `256 * batch + position`. -/
structure Args where
  /-- tokens by model coordinate -/
  X : Fin 1024 → Fin 1536 → EReal
  /-- the scale of a token -/
  sc : Fin 1024 → EReal
  /-- the weight -/
  W : Fin 1536 → Fin 8960 → EReal
  /-- bytes, each the codes of two rows -/
  Q : Fin 768 → Fin 8960 → BitVec 8
  /-- the scale of a group of 128 rows -/
  qs : Fin 12 → Fin 8960 → EReal
  /-- the left factor -/
  A : Fin 1536 → Fin 24 → EReal
  /-- the right factor -/
  B : Fin 24 → Fin 8960 → EReal

/-- The arguments read off the seven arrays. -/
def mkArgs (x0 : (⟨3, ![4, 256, 1536]⟩ : Shape).Idx → EReal) (x1 : (⟨2, ![4, 256]⟩ : Shape).Idx → EReal)
    (x2 : (⟨2, ![1536, 8960]⟩ : Shape).Idx → EReal) (x3 : (⟨2, ![768, 8960]⟩ : Shape).Idx → BitVec 8)
    (x4 : (⟨2, ![12, 8960]⟩ : Shape).Idx → EReal) (x5 : (⟨2, ![1536, 24]⟩ : Shape).Idx → EReal)
    (x6 : (⟨2, ![24, 8960]⟩ : Shape).Idx → EReal) : Args where
  X t k := x0 (ix3 ⟨t.val / 256, by omega⟩ ⟨t.val % 256, by omega⟩ k)
  sc t := x1 (ix2 ⟨t.val / 256, by omega⟩ ⟨t.val % 256, by omega⟩)
  W k n := x2 (ix2 k n)
  Q k n := x3 (ix2 k n)
  qs g n := x4 (ix2 g n)
  A k r := x5 (ix2 k r)
  B r n := x6 (ix2 r n)

variable (a : Args)

/-- The code of a row: the low half of its byte in the first 768 rows, the high half in the others. -/
def code (k : Fin 1536) (n : Fin 8960) : EReal :=
  if h : k.val < 768 then loCode (a.Q ⟨k.val, h⟩ n) else hiCode (a.Q ⟨k.val - 768, by omega⟩ n)

/-- The error of the dequantised weight. -/
def err (k : Fin 1536) (n : Fin 8960) : EReal := a.W k n - code a k n * a.qs ⟨k.val / 128, by omega⟩ n

/-- The scaled tokens through the left factor. -/
def proj (t : Fin 1024) (r : Fin 24) : EReal := (∑ k : Fin 1536, a.X t k * a.A k r) * a.sc t

/-- The residual: the tokens through the error, less their low-rank correction. -/
def resid (t : Fin 1024) (n : Fin 8960) : EReal :=
  (∑ k : Fin 1536, a.X t k * err a k n) * a.sc t - ∑ r : Fin 24, proj a t r * a.B r n

/-- The loss of a token. -/
def loss (t : Fin 1024) : EReal := ∑ n : Fin 8960, resid a t n * resid a t n

/-- The residual through the right factor. -/
def gmat (t : Fin 1024) (r : Fin 24) : EReal := ∑ n : Fin 8960, resid a t n * a.B r n

/-- The gradient of the left factor. -/
def dA (d : Fin 1536) (r : Fin 24) : EReal := negTwo * ∑ t : Fin 1024, a.X t d * (gmat a t r * a.sc t)

/-- The gradient of the right factor. -/
def dB (r : Fin 24) (n : Fin 8960) : EReal := negTwo * ∑ t : Fin 1024, proj a t r * resid a t n

/-- The token of a batch entry and a position. -/
def tok (b : Fin 4) (s : Fin 256) : Fin 1024 := ⟨256 * b.val + s.val, by omega⟩

/-- The loss as an array over batch entries and positions. -/
def lossArr : (⟨2, ![4, 256]⟩ : Shape).Idx → EReal := fun i => loss a (tok (i 0) (i 1))

/-- The residual through the right factor, as an array. -/
def gArr : (⟨2, ![1024, 24]⟩ : Shape).Idx → EReal := fun i => gmat a (i 0) (i 1)

/-- The gradient of the left factor, as an array. -/
def dAArr : (⟨2, ![1536, 24]⟩ : Shape).Idx → EReal := fun i => dA a (i 0) (i 1)

/-- The gradient of the right factor, as an array. -/
def dBArr : (⟨2, ![24, 8960]⟩ : Shape).Idx → EReal := fun i => dB a (i 0) (i 1)

/-- An index of a two-axis shape is the pair of its coordinates. -/
theorem eq_ix2_of {a b : Nat} (x : (⟨2, ![a, b]⟩ : Shape).Idx) (i : Fin a) (j : Fin b) (h0 : (x 0).val = i.val)
    (h1 : (x 1).val = j.val) : x = ix2 i j := by
  funext k
  match k with
  | ⟨0, _⟩ => exact Fin.ext h0
  | ⟨1, _⟩ => exact Fin.ext h1

/-- Two arrays of two axes are equal when they are at every pair of coordinates. -/
theorem ext_ix2 {α : Type} {a b : Nat} {f g : (⟨2, ![a, b]⟩ : Shape).Idx → α} (h : ∀ i j, f (ix2 i j) = g (ix2 i j)) : f = g := by
  funext x
  rw [eq_ix2_of x (x 0) (x 1) rfl rfl]
  exact h _ _

/-- A sum over tokens is the double sum over batch entries and positions. -/
theorem sum_tok (f : Fin 1024 → EReal) : ∑ t, f t = ∑ b : Fin 4, ∑ s : Fin 256, f (tok b s) := by
  rw [← Fintype.sum_prod_type', ← Equiv.sum_comp (finProdFinEquiv (m := 4) (n := 256))]
  refine Finset.sum_congr rfl fun p _ => congrArg f (Fin.ext ?_)
  show p.2.val + 256 * p.1.val = 256 * p.1.val + p.2.val
  omega

/-- A sum over the columns is the double sum over blocks of 1280 columns and columns of a block. -/
theorem sum_cols (f : Fin 8960 → EReal) :
    ∑ n, f n = ∑ p : Fin 7, ∑ j : Fin 1280, f ⟨1280 * p.val + j.val, by omega⟩ := by
  rw [← Fintype.sum_prod_type', ← Equiv.sum_comp (finProdFinEquiv (m := 7) (n := 1280))]
  refine Finset.sum_congr rfl fun p _ => congrArg f (Fin.ext ?_)
  show p.2.val + 1280 * p.1.val = 1280 * p.1.val + p.2.val
  omega

/-- A sum over the columns of a block is the sum over lanes of the sums over its ten tiles. -/
theorem sum_lanes (f : Fin 1280 → EReal) :
    ∑ j, f j = ∑ l : Fin 128, ∑ g : Fin 10, f ⟨128 * g.val + l.val, by omega⟩ := by
  rw [Finset.sum_comm, ← Fintype.sum_prod_type', ← Equiv.sum_comp (finProdFinEquiv (m := 10) (n := 128))]
  refine Finset.sum_congr rfl fun p _ => congrArg f (Fin.ext ?_)
  show p.2.val + 128 * p.1.val = 128 * p.1.val + p.2.val
  omega

/-- A sum over the rows is the sum over the first 768 plus the sum over the others. -/
theorem sum_halves (f : Fin 1536 → EReal) :
    ∑ k, f k = ∑ k : Fin 768, f ⟨k.val, by omega⟩ + ∑ k : Fin 768, f ⟨768 + k.val, by omega⟩ :=
  Fin.sum_univ_add (a := 768) (b := 768) f

end Cert.LowRank
-- ==== Proof.Payload.lean ====
/- What one block of the kernel computes, read at an index over the extended reals. -/
module

public import proofs.«01_k».proof.Proof.Gen.KernelIdeal.Skeleton
public import proofs.«01_k».proof.Proof.Spec
public import Idealize.ShloMosaic.Lib.Pointwise
public import Idealize.ShloMosaic.Lib.Pipeline.ValueKit

@[expose] public section

set_option maxRecDepth 16384

noncomputable section

namespace Cert.LowRank

open Idealize.ShloMosaic Cert.KernelIdeal Cert.KernelIdeal.Gen
open scoped BigOperators

/-- The error field of the rows in the low halves of the bytes. -/
theorem pay29_apply (q : Vec Ideal S768x1280 .i8) (w : Vec Ideal S768x1280 .bf16) (s : Vec Ideal S6x1280 .bf16)
    (k : Fin 768) (j : Fin 1280) :
    k0_pay29 q w s (ix2 k j) = w (ix2 k j) - loCode (q (ix2 k j)) * s (ix2 ⟨k.val / 128, by omega⟩ j) := by
  unfold_payloads
  pointwise
  rfl

/-- A byte shifted right by four bits has nothing above the four bits left. -/
theorem shr_and (q : BitVec 8) :
    (BitVec.setWidth 32 q).sshiftRight 4 &&& 15#32 = (BitVec.setWidth 32 q).sshiftRight 4 := by
  revert q; decide +kernel

/-- The error field of the rows in the high halves of the bytes. -/
theorem pay32_apply (q : Vec Ideal S768x1280 .i8) (w : Vec Ideal S768x1280 .bf16) (s : Vec Ideal S6x1280 .bf16)
    (k : Fin 768) (j : Fin 1280) :
    k0_pay32 w (k0_pay30 q) (k0_pay31 s) (ix2 k j) = w (ix2 k j) - hiCode (q (ix2 k j)) * s (ix2 ⟨k.val / 128, by omega⟩ j) := by
  unfold_payloads
  pointwise
  rw [hiCode, shr_and]
  rfl

/-- Ten copies of a 128-lane array side by side, read at a column. -/
theorem wide_apply (s : Vec Ideal S1024x128 .f32) (t : Fin 1024) (j : Fin 1280) :
    concatenate S1024x1280 1 [⟨S1024x128, s⟩, ⟨S1024x128, s⟩, ⟨S1024x128, s⟩, ⟨S1024x128, s⟩, ⟨S1024x128, s⟩, ⟨S1024x128, s⟩,
      ⟨S1024x128, s⟩, ⟨S1024x128, s⟩, ⟨S1024x128, s⟩, ⟨S1024x128, s⟩]
      concatenates_S1024x128_S1024x128_S1024x128_S1024x128_S1024x128_S1024x128_S1024x128_S1024x128_S1024x128_S1024x128_S1024x1280_d1
      (ix2 t j) = s (ix2 t ⟨j.val % 128, by omega⟩) := by
  refine concatenate_replicate_apply (t := S1024x1280) 1 10 s _ rfl (ix2 t j) (ix2 t ⟨j.val % 128, by omega⟩) ?_ ?_
  · rfl
  · intro b hb
    match b with
    | ⟨0, _⟩ => rfl
    | ⟨1, _⟩ => exact absurd rfl hb

/-- The residual of a block. -/
theorem pay33_apply (x : Vec Ideal S1024x1536 .bf16) (e : Vec Ideal S1536x1280 .bf16) (p : Vec Ideal S1024x24 .bf16)
    (b : Vec Ideal S24x1280 .bf16) (s : Vec Ideal S1024x128 .f32) (t : Fin 1024) (j : Fin 1280) :
    k0_pay33 x e p b s (ix2 t j) = (∑ k : Fin 1536, x (ix2 t k) * e (ix2 k j)) * s (ix2 t ⟨j.val % 128, by omega⟩)
      - ∑ r : Fin 24, p (ix2 t r) * b (ix2 r j) := by
  rw [← wide_apply s t j]
  unfold_payloads
  generalize concatenate _ _ _ _ = v
  pointwise

/-- The ten lane tiles of squared residuals added to the running lanes. -/
theorem pay1_apply (x : Vec Ideal S1024x1536 .bf16) (e : Vec Ideal S1536x1280 .bf16) (p : Vec Ideal S1024x24 .bf16)
    (b : Vec Ideal S24x1280 .bf16) (s : Vec Ideal S1024x128 .f32) (acc : Vec Ideal S1024x128 .f32) (t : Fin 1024) (l : Fin 128) :
    k0_pay1 (k0_pay33 x e p b s) (k0_pay34 x e p b s acc) (k0_pay35 x e p b s) (k0_pay36 x e p b s) (ix2 t l)
      = acc (ix2 t l) + ∑ g : Fin 10, k0_pay33 x e p b s (ix2 t ⟨128 * g.val + l.val, by omega⟩)
          * k0_pay33 x e p b s (ix2 t ⟨128 * g.val + l.val, by omega⟩) := by
  unfold k0_pay1 k0_pay34 k0_pay35 k0_pay36
  generalize k0_pay33 x e p b s = R
  pointwise
  simp only [Fin.sum_univ_succ, Fin.sum_univ_zero, add_zero, add_assoc, Fin.val_succ, Fin.val_zero,
    Nat.mul_zero, Nat.zero_add, Nat.reduceAdd, Nat.reduceMul]

/-- The block's contribution added to the running `g`. -/
theorem pay3_apply (R : Vec Ideal S1024x1280 .f32) (g : Vec Ideal S1024x24 .f32) (b : Vec Ideal S24x1280 .bf16)
    (t : Fin 1024) (r : Fin 24) :
    k0_pay3 R g b (ix2 t r) = g (ix2 t r) + ∑ j : Fin 1280, R (ix2 t j) * b (ix2 r j) := by
  unfold_payloads
  pointwise

/-- The block of `d_b`. -/
theorem pay4_apply (R : Vec Ideal S1024x1280 .f32) (p : Vec Ideal S1024x24 .bf16) (r : Fin 24) (j : Fin 1280) :
    k0_pay4 R p (ix2 r j) = negTwo * ∑ t : Fin 1024, p (ix2 t r) * R (ix2 t j) := by
  unfold_payloads
  pointwise
  rfl

/-- The tokens, as read. -/
theorem pay10_apply (x : Vec Ideal S1024x1536 .fp8e4m3) (t : Fin 1024) (k : Fin 1536) :
    k0_pay10 x (ix2 t k) = x (ix2 t k) := by
  unfold_payloads
  pointwise

/-- A row of scales, turned into a tile whose row `a` holds the scale `a` in every lane. -/
theorem pay11_apply (s : Vec Ideal S1x128 .f32) (a l : Fin 128) : k0_pay11 s (ix2 a l) = s (ix2 0 a) := by
  unfold_payloads
  pointwise

/-- The projected tokens. -/
theorem pay25_apply (x : Vec Ideal S1024x1536 .bf16) (a : Vec Ideal S1536x24 .bf16) (s : Vec Ideal S1024x24 .f32)
    (t : Fin 1024) (r : Fin 24) :
    k0_pay25 (k0_pay19 x a s) (ix2 t r) = (∑ k : Fin 1536, x (ix2 t k) * a (ix2 k r)) * s (ix2 t r) := by
  unfold_payloads
  pointwise

/-- The running lanes start at zero. -/
theorem pay26_apply (t : Fin 1024) (l : Fin 128) : k0_pay26 (F := Ideal) (ix2 t l) = 0 := by
  unfold_payloads
  pointwise

/-- The running `g` starts at zero. -/
theorem pay27_apply (t : Fin 1024) (r : Fin 24) : k0_pay27 (F := Ideal) (ix2 t r) = 0 := by
  unfold_payloads
  pointwise

/-- The whole of `d_a`. -/
theorem pay20_apply (g s : Vec Ideal S1024x24 .f32) (x : Vec Ideal S1024x1536 .bf16) (d : Fin 1536) (r : Fin 24) :
    k0_pay20 g s x (ix2 d r) = negTwo
      * ∑ t : Fin 1024, x (ix2 t d) * (g (ix2 t r) * s (ix2 t r)) := by
  unfold_payloads
  pointwise
  rfl

/-- A tile's rows summed over the lanes. -/
theorem pay21_apply (v : Vec Ideal S128x128 .f32) (u : Fin 1) (a : Fin 128) :
    k0_pay21 v (ix2 u a) = ∑ l : Fin 128, v (ix2 a l) := by
  unfold_payloads
  pointwise

end Cert.LowRank
-- ==== Proof.Point.lean ====
/- What one grid point leaves in the carried tiles and the output blocks, as words over its input blocks and what the
   point before left. -/
module

public import proofs.«01_k».proof.Proof.Payload
public import proofs.«01_k».proof.Proof.Gen.KernelIdeal.Frame
public import Idealize.ShloMosaic.Lib.Pipeline.ReadBack

@[expose] public section

set_option maxRecDepth 16384

noncomputable section

namespace Cert.LowRank

open Idealize.ShloMosaic Cert.KernelIdeal Cert.KernelIdeal.Gen
open scoped BigOperators

/-- A load of a two-axis array at a pair of coordinates. -/
theorem ld_ix2 {α : EltTy → Type} {e : EltTy} {a b c d : Nat} (X : (⟨2, ![a, b]⟩ : Shape).Idx → α e) (o p : Nat) (inb) (x : Fin c) (y : Fin d)
    (i : Fin a) (j : Fin b) (hi : i.val = o + x.val) (hj : j.val = p + y.val) :
    View.ld (Val := α) X (Rect.unit (s := ⟨2, ![a, b]⟩) ![o, p] ![c, d] inb) (ix2 x y) = X (ix2 i j) := by
  refine View.ld_unit_apply_of X _ _ inb _ (ix2 i j) (fun k => ?_)
  match k with
  | ⟨0, _⟩ => exact hi
  | ⟨1, _⟩ => exact hj

/-- The two stores of the error tile. -/
def ePieces (w : Vec Ideal S1536x1280 .bf16) (q : Vec Ideal S768x1280 .i8) (s : Vec Ideal S12x1280 .bf16) :
    List (View.Piece (Elt Ideal) S1536x1280 .bf16) :=
  [⟨Rect.unit ![768, 0] ![768, 1280] inb_S1536x1280_S768x1280_768_0,
      k0_pay32 (View.ld w (Rect.unit ![768, 0] ![768, 1280] inb_S1536x1280_S768x1280_768_0)) (k0_pay30 q)
        (k0_pay31 (View.ld s (Rect.unit ![6, 0] ![6, 1280] inb_S12x1280_S6x1280_6_0)))⟩,
    ⟨Rect.unit ![0, 0] ![768, 1280] inb_S1536x1280_S768x1280_0_0,
      k0_pay29 q (View.ld w (Rect.unit ![0, 0] ![768, 1280] inb_S1536x1280_S768x1280_0_0))
        (View.ld s (Rect.unit ![0, 0] ![6, 1280] inb_S12x1280_S6x1280_0_0))⟩]

/-- The error tile of a point, as its two stores leave it. -/
def eTile (w : Vec Ideal S1536x1280 .bf16) (q : Vec Ideal S768x1280 .i8) (s : Vec Ideal S12x1280 .bf16) :
    Vec Ideal S1536x1280 .bf16 :=
  (View.whole cc0_scratch2).readCov (ePieces w q s) (Rect.unit (s := S1536x1280) ![0, 0] ![1536, 1280] inb_S1536x1280_S1536x1280_0_0).toLoadRect

/-- The error tile: the weight less its code times its scale. -/
theorem eTile_apply (w : Vec Ideal S1536x1280 .bf16) (q : Vec Ideal S768x1280 .i8) (s : Vec Ideal S12x1280 .bf16)
    (k : Fin 1536) (j : Fin 1280) :
    eTile w q s (ix2 k j) = w (ix2 k j) - (if h : k.val < 768 then loCode (q (ix2 ⟨k.val, h⟩ j))
      else hiCode (q (ix2 ⟨k.val - 768, by omega⟩ j))) * s (ix2 ⟨k.val / 128, by omega⟩ j) := by
  unfold eTile
  rw [View.readCov_eq_canon']
  have hy0 : (((Rect.unit (s := S1536x1280) ![0, 0] ![1536, 1280] inb_S1536x1280_S1536x1280_0_0).idx (ix2 k j)) 0).val = k.val :=
    (Rect.idx_unit_val (s := S1536x1280) _ _ inb_S1536x1280_S1536x1280_0_0 (ix2 k j) 0).trans (Nat.zero_add _)
  have hy1 : (((Rect.unit (s := S1536x1280) ![0, 0] ![1536, 1280] inb_S1536x1280_S1536x1280_0_0).idx (ix2 k j)) 1).val = j.val :=
    (Rect.idx_unit_val (s := S1536x1280) _ _ inb_S1536x1280_S1536x1280_0_0 (ix2 k j) 1).trans (Nat.zero_add _)
  show View.canon (ePieces w q s) ((Rect.unit (s := S1536x1280) ![0, 0] ![1536, 1280] inb_S1536x1280_S1536x1280_0_0).idx (ix2 k j)) = _
  generalize (Rect.unit (s := S1536x1280) ![0, 0] ![1536, 1280] inb_S1536x1280_S1536x1280_0_0).idx (ix2 k j) = y at hy0 hy1 ⊢
  unfold ePieces
  canon_tiles x h
  · rw [hy0] at h0
    rw [hy1] at h1
    have hk : k.val - 768 < 768 := by omega
    have hx : x = ix2 ⟨k.val - 768, hk⟩ j := eq_ix2_of x _ _ (by show (x 0).val = k.val - 768; omega) h1.symm
    rw [hx, dif_neg (by omega), pay32_apply, ld_ix2 (i := k) (j := j) _ _ _ _ _ _ (by show k.val = 768 + (k.val - 768); omega) (by omega),
      ld_ix2 (i := ⟨k.val / 128, by omega⟩) (j := j) _ _ _ _ _ _ (by show k.val / 128 = 6 + (k.val - 768) / 128; omega) (by omega)]
  · rw [hy0] at h0
    rw [hy1] at h1
    have hk : k.val < 768 := by omega
    have hx : x = ix2 ⟨k.val, hk⟩ j := eq_ix2_of x _ _ h0.symm h1.symm
    rw [hx, dif_pos (by omega), pay29_apply, ld_ix2 (i := k) (j := j) _ _ _ _ _ _ (by show k.val = 0 + k.val; omega) (by omega),
      ld_ix2 (i := ⟨k.val / 128, by omega⟩) (j := j) _ _ _ _ _ _ (by show k.val / 128 = 0 + k.val / 128; omega) (by omega)]

/-- The eight stores of the token scales' tile. -/
def sPieces (s : Vec Ideal S4x256 .f32) : List (View.Piece (Elt Ideal) S1024x128 .f32) :=
      [⟨Rect.unit ![896, 0] ![128, 128] inb_S1024x128_S128x128_896_0, k0_pay18 (View.ld s (Rect.unit ![3, 128] ![1, 128] inb_S4x256_S1x128_3_128))⟩,
       ⟨Rect.unit ![768, 0] ![128, 128] inb_S1024x128_S128x128_768_0, k0_pay17 (View.ld s (Rect.unit ![3, 0] ![1, 128] inb_S4x256_S1x128_3_0))⟩,
       ⟨Rect.unit ![640, 0] ![128, 128] inb_S1024x128_S128x128_640_0, k0_pay16 (View.ld s (Rect.unit ![2, 128] ![1, 128] inb_S4x256_S1x128_2_128))⟩,
       ⟨Rect.unit ![512, 0] ![128, 128] inb_S1024x128_S128x128_512_0, k0_pay15 (View.ld s (Rect.unit ![2, 0] ![1, 128] inb_S4x256_S1x128_2_0))⟩,
       ⟨Rect.unit ![384, 0] ![128, 128] inb_S1024x128_S128x128_384_0, k0_pay14 (View.ld s (Rect.unit ![1, 128] ![1, 128] inb_S4x256_S1x128_1_128))⟩,
       ⟨Rect.unit ![256, 0] ![128, 128] inb_S1024x128_S128x128_256_0, k0_pay13 (View.ld s (Rect.unit ![1, 0] ![1, 128] inb_S4x256_S1x128_1_0))⟩,
       ⟨Rect.unit ![128, 0] ![128, 128] inb_S1024x128_S128x128_128_0, k0_pay12 (View.ld s (Rect.unit ![0, 128] ![1, 128] inb_S4x256_S1x128_0_128))⟩,
       ⟨Rect.unit ![0, 0] ![128, 128] inb_S1024x128_S128x128_0_0, k0_pay11 (View.ld s (Rect.unit ![0, 0] ![1, 128] inb_S4x256_S1x128_0_0))⟩]

/-- The token scales' tile: row `t` holds the scale of token `t` in every lane. -/
theorem sPieces_apply (s : Vec Ideal S4x256 .f32) (y : S1024x128.Idx) (t : Fin 1024) (hy : (y 0).val = t.val) :
    View.canon (sPieces s) y = s (ix2 ⟨t.val / 256, by omega⟩ ⟨t.val % 256, by omega⟩) := by
  unfold sPieces
  canon_tiles x h
  all_goals
    rw [hy] at h0
    have hx : x = ix2 (⟨(x 0).val, x0_lt⟩ : Fin 128) (⟨(x 1).val, x1_lt⟩ : Fin 128) := eq_ix2_of x _ _ rfl rfl
    rw [hx]
    refine (pay11_apply _ _ _).trans (ld_ix2 _ _ _ _ _ _ _ _ ?_ ?_)
    · show t.val / 256 = _ + 0
      omega
    · show t.val % 256 = _ + (x 0).val
      omega

/-- 128 rows of the lane sums, read back from the store of them all. -/
def lanesAt (v : Vec Ideal S1024x128 .f32) (o : Fin 2 → Nat) (h : ∀ a, o a + (![128, 128] : Fin 2 → Nat) a ≤ S1024x128.size a) : Vec Ideal S128x128 .f32 :=
  (View.whole cc0_scratch4).readCov [⟨Rect.unit ![0, 0] ![1024, 128] inb_S1024x128_S1024x128_0_0, v⟩]
    (Rect.unit (s := S1024x128) o ![128, 128] h).toLoadRect

/-- They are those rows. -/
theorem lanesAt_apply (v : Vec Ideal S1024x128 .f32) (o : Nat) (h) (a l : Fin 128) (t : Fin 1024) (ht : t.val = o + a.val) :
    lanesAt v ![o, 0] h (ix2 a l) = v (ix2 t l) := by
  unfold lanesAt
  rw [View.readCov_eq_canon']
  show View.canon _ _ = _
  rw [show View.canon (Val := Elt Ideal) (e := .f32) [⟨Rect.unit (s := S1024x128) ![0, 0] ![1024, 128] inb_S1024x128_S1024x128_0_0, v⟩] = v from
    View.canon_unit_zero (S := S1024x128) (off := ![0, 0]) (by decide) inb_S1024x128_S1024x128_0_0 v]
  exact ld_ix2 (α := Elt Ideal) (e := .f32) v o 0 h a l t l ht (by omega)

/-- The eight stores of the loss. -/
def lossPieces (v : Vec Ideal S1024x128 .f32) : List (View.Piece (Elt Ideal) S4x256 .f32) :=
      [⟨Rect.unit ![3, 128] ![1, 128] inb_S4x256_S1x128_3_128, k0_pay21 (lanesAt v ![896, 0] inb_S1024x128_S128x128_896_0)⟩,
       ⟨Rect.unit ![3, 0] ![1, 128] inb_S4x256_S1x128_3_0, k0_pay21 (lanesAt v ![768, 0] inb_S1024x128_S128x128_768_0)⟩,
       ⟨Rect.unit ![2, 128] ![1, 128] inb_S4x256_S1x128_2_128, k0_pay21 (lanesAt v ![640, 0] inb_S1024x128_S128x128_640_0)⟩,
       ⟨Rect.unit ![2, 0] ![1, 128] inb_S4x256_S1x128_2_0, k0_pay21 (lanesAt v ![512, 0] inb_S1024x128_S128x128_512_0)⟩,
       ⟨Rect.unit ![1, 128] ![1, 128] inb_S4x256_S1x128_1_128, k0_pay21 (lanesAt v ![384, 0] inb_S1024x128_S128x128_384_0)⟩,
       ⟨Rect.unit ![1, 0] ![1, 128] inb_S4x256_S1x128_1_0, k0_pay21 (lanesAt v ![256, 0] inb_S1024x128_S128x128_256_0)⟩,
       ⟨Rect.unit ![0, 128] ![1, 128] inb_S4x256_S1x128_0_128, k0_pay21 (lanesAt v ![128, 0] inb_S1024x128_S128x128_128_0)⟩,
       ⟨Rect.unit ![0, 0] ![1, 128] inb_S4x256_S1x128_0_0, k0_pay21 (lanesAt v ![0, 0] inb_S1024x128_S128x128_0_0)⟩]

/-- The loss: the lane sums of a token, summed over the lanes. -/
theorem lossPieces_apply (v : Vec Ideal S1024x128 .f32) (b : Fin 4) (s : Fin 256) :
    View.canon (lossPieces v) (ix2 b s) = ∑ l : Fin 128, v (ix2 (tok b s) l) := by
  have hy0 : ((ix2 b s : S4x256.Idx) 0).val = b.val := rfl
  have hy1 : ((ix2 b s : S4x256.Idx) 1).val = s.val := rfl
  generalize (ix2 b s : S4x256.Idx) = y at hy0 hy1 ⊢
  unfold lossPieces
  canon_tiles x h
  all_goals
    rw [hy0] at h0
    rw [hy1] at h1
    have hx : x = ix2 (⟨(x 0).val, x0_lt⟩ : Fin 1) (⟨(x 1).val, x1_lt⟩ : Fin 128) := eq_ix2_of x _ _ rfl rfl
    rw [hx]
    refine (pay21_apply _ _ _).trans (Finset.sum_congr rfl fun l _ => lanesAt_apply v _ _ _ l _ ?_)
    show 256 * b.val + s.val = _ + (x 1).val
    omega

/-- The running lane sums after a point's tile `R` is folded in: `acc` plus the squares of the ten tiles of each row. -/
def laneStep (x : Vec Ideal S1024x1536 .bf16) (e : Vec Ideal S1536x1280 .bf16) (p : Vec Ideal S1024x24 .bf16)
    (b : Vec Ideal S24x1280 .bf16) (s : Vec Ideal S1024x128 .f32) (acc : Vec Ideal S1024x128 .f32) : Vec Ideal S1024x128 .f32 :=
  k0_pay1 (k0_pay33 x e p b s) (k0_pay34 x e p b s acc) (k0_pay35 x e p b s) (k0_pay36 x e p b s)

variable (m : (ℓ : Loc nD τ sig) → Buf (Elt Ideal) ℓ)

/-- The error tile of point `t`. -/
abbrev eAt (c : Dev nD) (t : Fin cfg0.N) : Vec Ideal S1536x1280 .bf16 := eTile (iblk m c 2 t) (iblk m c 3 t) (iblk m c 4 t)

/-- At a point between the first and the last the running `g` is the one before plus the residual tile through the right factor. -/
theorem B_g (c : Dev nD) (t : Fin cfg0.N) (h0 : ¬t.val % 7 = 0) (h1 : ¬t.val % 7 = 6) :
    (outsAt0 m c t.val t.isLt).2.1
      = k0_pay3 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.1 (iblk m c 6 t) := by
  rw [outsAt0_B m c t h0 h1]
  frame_out
  simp only [read_unread_whole]
  rfl

/-- At a point between the first and the last the lane sums are those before plus the squares of the residual tile. -/
theorem B_lanes (c : Dev nD) (t : Fin cfg0.N) (h0 : ¬t.val % 7 = 0) (h1 : ¬t.val % 7 = 6) :
    (outsAt0 m c t.val t.isLt).2.2.2.2.2.2.2
      = laneStep (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1
          (outsAt0 m c (t.val - 1) (by omega)).2.2.2.2.2.2.2 := by
  rw [outsAt0_B m c t h0 h1]
  frame_out
  simp only [read_unread_whole]
  rfl

/-- At a point between the first and the last the right factor's gradient block is computed from the residual tile and the projections. -/
theorem B_db (c : Dev nD) (t : Fin cfg0.N) (h0 : ¬t.val % 7 = 0) (h1 : ¬t.val % 7 = 6) :
    (outsAt0 m c t.val t.isLt).2.2.2.1
      = k0_pay4 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.2.2.2.2.2.1 := by
  rw [outsAt0_B m c t h0 h1]
  frame_out
  simp only [read_unread_whole]
  rfl

/-- At a point between the first and the last the tokens are as the point before left them. -/
theorem B_x (c : Dev nD) (t : Fin cfg0.N) (h0 : ¬t.val % 7 = 0) (h1 : ¬t.val % 7 = 6) :
    (outsAt0 m c t.val t.isLt).2.2.2.2.1 = (outsAt0 m c (t.val - 1) (by omega)).2.2.2.2.1 := by
  rw [outsAt0_B m c t h0 h1]
  rfl

/-- At the last point the loss is as its eight stores leave it, from the lane sums just updated. -/
theorem C_loss (c : Dev nD) (t : Fin cfg0.N) (h0 : ¬t.val % 7 = 0) (h1 : t.val % 7 = 6) :
    (outsAt0 m c t.val t.isLt).1 = View.canon (lossPieces (laneStep (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1
          (outsAt0 m c (t.val - 1) (by omega)).2.2.2.2.2.2.2)) := by
  rw [outsAt0_C m c t h0 h1]
  frame_out
  simp only [read_unread_whole]
  rfl

/-- At the last point the left factor's gradient is computed from the running `g` just updated, the scales and the tokens. -/
theorem C_da (c : Dev nD) (t : Fin cfg0.N) (h0 : ¬t.val % 7 = 0) (h1 : t.val % 7 = 6) :
    (outsAt0 m c t.val t.isLt).2.2.1
      = k0_pay20 (k0_pay3 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.1 (iblk m c 6 t))
        (View.ld (outsAt0 m c (t.val - 1) (by omega)).2.2.2.2.2.1 (Rect.unit ![0, 0] ![1024, 24] inb_S1024x128_S1024x24_0_0))
        (outsAt0 m c (t.val - 1) (by omega)).2.2.2.2.1 := by
  rw [outsAt0_C m c t h0 h1]
  frame_out
  simp only [read_unread_whole]
  rfl

/-- The scales of the tokens, in the tile's first 24 lanes, as read back from its eight stores. -/
def scales24 (s : Vec Ideal S4x256 .f32) : Vec Ideal S1024x24 .f32 :=
  (View.whole cc0_scratch1).readCov (sPieces s) (Rect.unit (s := S1024x128) ![0, 0] ![1024, 24] inb_S1024x128_S1024x24_0_0).toLoadRect

/-- The scales of the tokens in every lane, as read back from the tile's eight stores. -/
def scales128 (s : Vec Ideal S4x256 .f32) : Vec Ideal S1024x128 .f32 :=
  (View.whole cc0_scratch1).readCov (sPieces s) (Rect.unit (s := S1024x128) ![0, 0] ![1024, 128] inb_S1024x128_S1024x128_0_0).toLoadRect

/-- The scale of token `t`. -/
theorem scales24_apply (s : Vec Ideal S4x256 .f32) (t : Fin 1024) (r : Fin 24) :
    scales24 s (ix2 t r) = s (ix2 ⟨t.val / 256, by omega⟩ ⟨t.val % 256, by omega⟩) := by
  unfold scales24
  rw [View.readCov_eq_canon']
  exact sPieces_apply s _ t ((Rect.idx_unit_val (s := S1024x128) _ _ inb_S1024x128_S1024x24_0_0 (ix2 t r) 0).trans (Nat.zero_add _))

/-- The scale of token `t`. -/
theorem scales128_apply (s : Vec Ideal S4x256 .f32) (t : Fin 1024) (l : Fin 128) :
    scales128 s (ix2 t l) = s (ix2 ⟨t.val / 256, by omega⟩ ⟨t.val % 256, by omega⟩) := by
  unfold scales128
  rw [View.readCov_eq_canon']
  exact sPieces_apply s _ t ((Rect.idx_unit_val (s := S1024x128) _ _ inb_S1024x128_S1024x128_0_0 (ix2 t l) 0).trans (Nat.zero_add _))

/-- The tile of projected tokens that point 0 leaves. -/
abbrev projTile (x : Vec Ideal S1024x1536 .fp8e4m3) (a : Vec Ideal S1536x24 .bf16) (s : Vec Ideal S4x256 .f32) : Vec Ideal S1024x24 .bf16 :=
  k0_pay25 (k0_pay19 (k0_pay10 x) a (scales24 s))

/-- At the first point the tokens are the block of them as cast. -/
theorem A_x (c : Dev nD) (t : Fin cfg0.N) (h0 : t.val % 7 = 0) (h1 : ¬t.val % 7 = 6) :
    (outsAt0 m c t.val t.isLt).2.2.2.2.1 = k0_pay10 (iblk m c 0 t) := by
  rw [outsAt0_A m c t h0 h1]
  frame_out

/-- At the first point the scales' tile is as its eight stores leave it. -/
theorem A_s (c : Dev nD) (t : Fin cfg0.N) (h0 : t.val % 7 = 0) (h1 : ¬t.val % 7 = 6) :
    (outsAt0 m c t.val t.isLt).2.2.2.2.2.1 = View.canon (sPieces (iblk m c 1 t)) := by
  rw [outsAt0_A m c t h0 h1]
  frame_out
  rfl

/-- At the first point the projections are computed from the tokens, the left factor and the scales. -/
theorem A_p (c : Dev nD) (t : Fin cfg0.N) (h0 : t.val % 7 = 0) (h1 : ¬t.val % 7 = 6) :
    (outsAt0 m c t.val t.isLt).2.2.2.2.2.2.1 = projTile (iblk m c 0 t) (iblk m c 5 t) (iblk m c 1 t) := by
  rw [outsAt0_A m c t h0 h1]
  frame_out
  rfl

/-- At the first point the running `g` is zero plus the residual tile through the right factor. -/
theorem A_g (c : Dev nD) (t : Fin cfg0.N) (h0 : t.val % 7 = 0) (h1 : ¬t.val % 7 = 6) :
    (outsAt0 m c t.val t.isLt).2.1
      = k0_pay3 (k0_pay33 (k0_pay10 (iblk m c 0 t)) (eAt m c t) (projTile (iblk m c 0 t) (iblk m c 5 t) (iblk m c 1 t)) (iblk m c 6 t)
          (scales128 (iblk m c 1 t))) (k0_pay27 (F := Ideal)) (iblk m c 6 t) := by
  rw [outsAt0_A m c t h0 h1]
  frame_out
  rfl

/-- At the first point the lane sums are zero plus the squares of the residual tile. -/
theorem A_lanes (c : Dev nD) (t : Fin cfg0.N) (h0 : t.val % 7 = 0) (h1 : ¬t.val % 7 = 6) :
    (outsAt0 m c t.val t.isLt).2.2.2.2.2.2.2
      = laneStep (k0_pay10 (iblk m c 0 t)) (eAt m c t) (projTile (iblk m c 0 t) (iblk m c 5 t) (iblk m c 1 t)) (iblk m c 6 t)
          (scales128 (iblk m c 1 t)) (k0_pay26 (F := Ideal)) := by
  rw [outsAt0_A m c t h0 h1]
  frame_out
  rfl

/-- At the first point the right factor's gradient block is computed from the residual tile and the projections. -/
theorem A_db (c : Dev nD) (t : Fin cfg0.N) (h0 : t.val % 7 = 0) (h1 : ¬t.val % 7 = 6) :
    (outsAt0 m c t.val t.isLt).2.2.2.1
      = k0_pay4 (k0_pay33 (k0_pay10 (iblk m c 0 t)) (eAt m c t) (projTile (iblk m c 0 t) (iblk m c 5 t) (iblk m c 1 t)) (iblk m c 6 t)
          (scales128 (iblk m c 1 t))) (projTile (iblk m c 0 t) (iblk m c 5 t) (iblk m c 1 t)) := by
  rw [outsAt0_A m c t h0 h1]
  frame_out
  rfl

/-- At the last point the running `g` is the one before plus the residual tile through the right factor. -/
theorem C_g (c : Dev nD) (t : Fin cfg0.N) (h0 : ¬t.val % 7 = 0) (h1 : t.val % 7 = 6) :
    (outsAt0 m c t.val t.isLt).2.1
      = k0_pay3 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.1 (iblk m c 6 t) := by
  rw [outsAt0_C m c t h0 h1]
  frame_out
  simp only [read_unread_whole]
  rfl

/-- At the last point the right factor's gradient block is computed from the residual tile and the projections. -/
theorem C_db (c : Dev nD) (t : Fin cfg0.N) (h0 : ¬t.val % 7 = 0) (h1 : t.val % 7 = 6) :
    (outsAt0 m c t.val t.isLt).2.2.2.1
      = k0_pay4 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.2.2.2.2.2.1 := by
  rw [outsAt0_C m c t h0 h1]
  frame_out
  simp only [read_unread_whole]
  rfl

end Cert.LowRank
-- ==== Proof.Blocks.lean ====
/- The blocks a grid point reads, as the arguments' elements. -/
module

public import proofs.«01_k».proof.Proof.Point

@[expose] public section

set_option maxRecDepth 16384

noncomputable section

namespace Cert.LowRank

open Idealize.ShloMosaic Idealize.ShloMosaic.TcCoe Cert.KernelIdeal Cert.KernelIdeal.Gen
open scoped BigOperators

variable (m : (ℓ : Loc nD τ sig) → Buf (Elt Ideal) ℓ)

/-- The kernel's arguments as functions of their coordinates. -/
def kArgs (c : Dev nD) : Args :=
  mkArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The column of the arrays that column `j` of point `p`'s blocks is. -/
def col (p : Nat) (j : Fin 1280) : Fin 8960 := ⟨(1280 * p + j.val) % 8960, Nat.mod_lt _ (by omega)⟩

/-- It is `1280 p + j` for the seven points. -/
theorem col_val (p : Nat) (hp : p < 7) (j : Fin 1280) : (col p j).val = 1280 * p + j.val := Nat.mod_eq_of_lt (by omega)

/-- The block index of window 0, at every point. -/
theorem idx0 : ∀ t : Fin cfg0.N, win0_0.index t = ![0, 0] := by decide +kernel
/-- The block index of window 1, at every point. -/
theorem idx1 : ∀ t : Fin cfg0.N, win0_1.index t = ![0, 0] := by decide +kernel
/-- The block index of window 2: the point's columns. -/
theorem idx2 : ∀ t : Fin cfg0.N, win0_2.index t = ![0, t.val] := by decide +kernel
/-- The block index of window 3: the point's columns. -/
theorem idx3 : ∀ t : Fin cfg0.N, win0_3.index t = ![0, t.val] := by decide +kernel
/-- The block index of window 4: the point's columns. -/
theorem idx4 : ∀ t : Fin cfg0.N, win0_4.index t = ![0, t.val] := by decide +kernel
/-- The block index of window 5, at every point. -/
theorem idx5 : ∀ t : Fin cfg0.N, win0_5.index t = ![0, 0] := by decide +kernel
/-- The block index of window 6: the point's columns. -/
theorem idx6 : ∀ t : Fin cfg0.N, win0_6.index t = ![0, t.val] := by decide +kernel
/-- The block index of window 10: the point's columns. -/
theorem idx10 : ∀ t : Fin cfg0.N, win0_10.index t = ![0, t.val] := by decide +kernel

/-- Two token axes merged into one. -/
theorem merge_apply (x : Vec Ideal S4x256x1536 .fp8e4m3) (t : Fin 1024) (k : Fin 1536) :
    shapeCast S1024x1536 x shapeCasts_S4x256x1536_S1024x1536 (ix2 t k)
      = x (ix3 ⟨t.val / 256, by omega⟩ ⟨t.val % 256, by omega⟩ k) := by
  pointwise

/-- The token array as the region finds it: the argument with its two token axes merged. -/
theorem V_v0 (c : Dev nD) (t : Fin 1024) (k : Fin 1536) :
    V m c main_v0 (ix2 t k) = (kArgs m c).X t k := by
  unfold_abbrev_sides
  after_results
  exact merge_apply _ t k

/-- Window 0 is the whole token array. -/
theorem iblk0 (c : Dev nD) (p : Fin cfg0.N) (t : Fin 1024) (k : Fin 1536) :
    iblk m c 0 p (ix2 t k) = (kArgs m c).X t k := by
  rw [← V_v0]
  blk_ext [iblk, idx0]

/-- Window 1 is the whole array of token scales. -/
theorem iblk1 (c : Dev nD) (p : Fin cfg0.N) (t : Fin 1024) :
    iblk m c 1 p (ix2 (⟨t.val / 256, by omega⟩ : Fin 4) (⟨t.val % 256, by omega⟩ : Fin 256)) = (kArgs m c).sc t := by
  unfold kArgs mkArgs
  dsimp only
  rw [← V_main_arg1 m c]
  blk_ext [iblk, idx1]

/-- Window 2 is the point's columns of the weight. -/
theorem iblk2 (c : Dev nD) (p : Fin cfg0.N) (k : Fin 1536) (j : Fin 1280) :
    iblk m c 2 p (ix2 k j) = (kArgs m c).W k (col p.val j) := by
  have h := col_val p.val (lt_of_lt_of_eq p.isLt N_0) j
  unfold kArgs mkArgs
  dsimp only
  rw [← V_main_arg2 m c]
  blk_ext [iblk, idx2]

/-- Window 3 is the point's columns of the bytes. -/
theorem iblk3 (c : Dev nD) (p : Fin cfg0.N) (k : Fin 768) (j : Fin 1280) :
    iblk m c 3 p (ix2 k j) = (kArgs m c).Q k (col p.val j) := by
  have h := col_val p.val (lt_of_lt_of_eq p.isLt N_0) j
  unfold kArgs mkArgs
  dsimp only
  rw [← V_main_arg3 m c]
  blk_ext [iblk, idx3]

/-- Window 4 is the point's columns of the code scales. -/
theorem iblk4 (c : Dev nD) (p : Fin cfg0.N) (k : Fin 12) (j : Fin 1280) :
    iblk m c 4 p (ix2 k j) = (kArgs m c).qs k (col p.val j) := by
  have h := col_val p.val (lt_of_lt_of_eq p.isLt N_0) j
  unfold kArgs mkArgs
  dsimp only
  rw [← V_main_arg4 m c]
  blk_ext [iblk, idx4]

/-- Window 5 is the whole left factor. -/
theorem iblk5 (c : Dev nD) (p : Fin cfg0.N) (k : Fin 1536) (r : Fin 24) :
    iblk m c 5 p (ix2 k r) = (kArgs m c).A k r := by
  unfold kArgs mkArgs
  dsimp only
  rw [← V_main_arg5 m c]
  blk_ext [iblk, idx5]

/-- Window 6 is the point's columns of the right factor. -/
theorem iblk6 (c : Dev nD) (p : Fin cfg0.N) (r : Fin 24) (j : Fin 1280) :
    iblk m c 6 p (ix2 r j) = (kArgs m c).B r (col p.val j) := by
  have h := col_val p.val (lt_of_lt_of_eq p.isLt N_0) j
  unfold kArgs mkArgs
  dsimp only
  rw [← V_main_arg6 m c]
  blk_ext [iblk, idx6]

end Cert.LowRank
-- ==== Proof.Fold.lean ====
/- What the carried tiles and the output blocks hold after each grid point, by induction on the point. -/
module

public import proofs.«01_k».proof.Proof.Blocks

@[expose] public section

set_option maxRecDepth 16384

noncomputable section

namespace Cert.LowRank

open Idealize.ShloMosaic Idealize.ShloMosaic.TcCoe Cert.KernelIdeal Cert.KernelIdeal.Gen
open scoped BigOperators

/-- The tiles that a point computes from hold the tokens, the errors, the projections, the right factor and the scales. -/
structure TilesAt (a : Args) (n : Nat) (x : Vec Ideal S1024x1536 .bf16) (e : Vec Ideal S1536x1280 .bf16)
    (p : Vec Ideal S1024x24 .bf16) (b : Vec Ideal S24x1280 .bf16) (s : Vec Ideal S1024x128 .f32) : Prop where
  /-- the tokens -/
  hx : ∀ t k, x (ix2 t k) = a.X t k
  /-- the errors of the point's columns -/
  he : ∀ k j, e (ix2 k j) = err a k (col n j)
  /-- the projections -/
  hp : ∀ t r, p (ix2 t r) = proj a t r
  /-- the right factor's columns -/
  hb : ∀ r j, b (ix2 r j) = a.B r (col n j)
  /-- the scales, in every lane -/
  hs : ∀ t l, s (ix2 t l) = a.sc t

section Point

variable {a : Args} {n : Nat} {x : Vec Ideal S1024x1536 .bf16} {e : Vec Ideal S1536x1280 .bf16} {p : Vec Ideal S1024x24 .bf16}
  {b : Vec Ideal S24x1280 .bf16} {s : Vec Ideal S1024x128 .f32}

/-- The point's tile of the residual. -/
theorem TilesAt.resid (h : TilesAt a n x e p b s) (t : Fin 1024) (j : Fin 1280) :
    k0_pay33 x e p b s (ix2 t j) = LowRank.resid a t (col n j) := by
  rw [pay33_apply, LowRank.resid, h.hs]
  simp only [h.hx, h.he, h.hp, h.hb]

/-- The lane sums grow by the squares of the point's residuals. -/
theorem TilesAt.lanes (h : TilesAt a n x e p b s) (acc : Vec Ideal S1024x128 .f32) (t : Fin 1024) (l : Fin 128) :
    laneStep x e p b s acc (ix2 t l) = acc (ix2 t l)
      + ∑ g : Fin 10, LowRank.resid a t (col n ⟨128 * g.val + l.val, by omega⟩) * LowRank.resid a t (col n ⟨128 * g.val + l.val, by omega⟩) := by
  rw [laneStep, pay1_apply]
  simp only [h.resid]

/-- The running `g` grows by the point's residuals through the right factor. -/
theorem TilesAt.g (h : TilesAt a n x e p b s) (acc : Vec Ideal S1024x24 .f32) (t : Fin 1024) (r : Fin 24) :
    k0_pay3 (k0_pay33 x e p b s) acc b (ix2 t r) = acc (ix2 t r)
      + ∑ j : Fin 1280, LowRank.resid a t (col n j) * a.B r (col n j) := by
  rw [pay3_apply]
  simp only [h.resid, h.hb]

/-- The point's block of the right factor's gradient. -/
theorem TilesAt.db (h : TilesAt a n x e p b s) (r : Fin 24) (j : Fin 1280) :
    k0_pay4 (k0_pay33 x e p b s) p (ix2 r j) = dB a r (col n j) := by
  rw [pay4_apply, dB]
  simp only [h.resid, h.hp]

end Point

variable (m : (ℓ : Loc nD τ sig) → Buf (Elt Ideal) ℓ)

/-- The error tile of a point. -/
theorem eAt_apply (c : Dev nD) (t : Fin cfg0.N) (k : Fin 1536) (j : Fin 1280) :
    eAt m c t (ix2 k j) = err (kArgs m c) k (col t.val j) := by
  rw [eAt, eTile_apply, err, code]
  simp only [iblk2, iblk3, iblk4]

/-- What holds after point `n`. -/
structure After (c : Dev nD) (n : Nat) (hn : n < cfg0.N) : Prop where
  /-- the tokens -/
  hx : ∀ t k, (outsAt0 m c n hn).2.2.2.2.1 (ix2 t k) = (kArgs m c).X t k
  /-- the scales, in every lane -/
  hs : ∀ t l, (outsAt0 m c n hn).2.2.2.2.2.1 (ix2 t l) = (kArgs m c).sc t
  /-- the projections -/
  hp : ∀ t r, (outsAt0 m c n hn).2.2.2.2.2.2.1 (ix2 t r) = proj (kArgs m c) t r
  /-- the lane sums, over the columns so far -/
  hl : ∀ t (l : Fin 128), (outsAt0 m c n hn).2.2.2.2.2.2.2 (ix2 t l) = ∑ q ∈ Finset.range (n + 1), ∑ g : Fin 10,
    resid (kArgs m c) t (col q ⟨128 * g.val + l.val, by omega⟩) * resid (kArgs m c) t (col q ⟨128 * g.val + l.val, by omega⟩)
  /-- the running `g`, over the columns so far -/
  hg : ∀ t r, (outsAt0 m c n hn).2.1 (ix2 t r) = ∑ q ∈ Finset.range (n + 1), ∑ j : Fin 1280,
    resid (kArgs m c) t (col q j) * (kArgs m c).B r (col q j)
  /-- the block of the right factor's gradient -/
  hd : ∀ r j, (outsAt0 m c n hn).2.2.2.1 (ix2 r j) = dB (kArgs m c) r (col n j)

/-- The tiles a later point computes from, given what the point before left. -/
theorem After.tiles {c : Dev nD} {n : Nat} {hn : n < cfg0.N} (h : After m c n hn) (t : Fin cfg0.N) :
    TilesAt (kArgs m c) t.val (outsAt0 m c n hn).2.2.2.2.1 (eAt m c t) (outsAt0 m c n hn).2.2.2.2.2.2.1 (iblk m c 6 t)
      (outsAt0 m c n hn).2.2.2.2.2.1 :=
  ⟨h.hx, eAt_apply m c t, h.hp, iblk6 m c t, h.hs⟩

/-- The tiles the first point computes from. -/
theorem tiles_first (c : Dev nD) (t : Fin cfg0.N) :
    TilesAt (kArgs m c) t.val (k0_pay10 (iblk m c 0 t)) (eAt m c t) (projTile (iblk m c 0 t) (iblk m c 5 t) (iblk m c 1 t)) (iblk m c 6 t)
      (scales128 (iblk m c 1 t)) := by
  refine ⟨fun u k => ?_, eAt_apply m c t, fun u r => ?_, iblk6 m c t, fun u l => ?_⟩
  · rw [pay10_apply, iblk0]
  · rw [projTile, pay25_apply, scales24_apply, iblk1, proj]
    simp only [pay10_apply, iblk0, iblk5]
  · rw [scales128_apply, iblk1]

/-- After the first point. -/
theorem after_first (c : Dev nD) (t : Fin cfg0.N) (h : t.val = 0) : After m c t.val t.isLt := by
  have h0 : t.val % 7 = 0 := by omega
  have h1 : ¬ t.val % 7 = 6 := by omega
  have T := tiles_first m c t
  have hr : Finset.range (t.val + 1) = {t.val} := by rw [h]; rfl
  refine ⟨fun u k => ?_, fun u l => ?_, fun u r => ?_, fun u l => ?_, fun u r => ?_, fun r j => ?_⟩
  · rw [A_x m c t h0 h1]; exact T.hx u k
  · rw [A_s m c t h0 h1, sPieces_apply _ _ u rfl, iblk1]
  · rw [A_p m c t h0 h1]; exact T.hp u r
  · rw [A_lanes m c t h0 h1, T.lanes, pay26_apply, zero_add, hr, Finset.sum_singleton]
  · rw [A_g m c t h0 h1, T.g, pay27_apply, zero_add, hr, Finset.sum_singleton]
  · rw [A_db m c t h0 h1, T.db]

/-- After a point between the first and the last. -/
theorem after_mid (c : Dev nD) (t : Fin cfg0.N) (h0 : ¬t.val % 7 = 0) (h1 : ¬t.val % 7 = 6)
    (H : After m c (t.val - 1) (by omega)) : After m c t.val t.isLt := by
  have T := H.tiles m t
  have hr : t.val - 1 + 1 = t.val := by omega
  refine ⟨fun u k => ?_, fun u l => ?_, fun u r => ?_, fun u l => ?_, fun u r => ?_, fun r j => ?_⟩
  · rw [outsAt0_B m c t h0 h1]; exact H.hx u k
  · rw [outsAt0_B m c t h0 h1]; exact H.hs u l
  · rw [outsAt0_B m c t h0 h1]; exact H.hp u r
  · rw [B_lanes m c t h0 h1, T.lanes, H.hl, hr, Finset.sum_range_succ]
  · rw [B_g m c t h0 h1, T.g, H.hg, hr, Finset.sum_range_succ]
  · rw [B_db m c t h0 h1, T.db]

/-- After every point but the last. -/
theorem after_all (c : Dev nD) : ∀ (n : Nat) (hn : n < cfg0.N), n < 6 → After m c n hn
  | 0, hn, _ => after_first m c ⟨0, hn⟩ rfl
  | n + 1, hn, h6 => by
    have e : ¬ (n + 1) % 7 = 0 := by omega
    have e' : ¬ (n + 1) % 7 = 6 := by omega
    exact after_mid m c ⟨n + 1, hn⟩ e e' (after_all c n _ (by omega))

/-- After the last point: the loss. -/
theorem last_loss (c : Dev nD) (t : Fin cfg0.N) (ht : t.val = 6) (b : Fin 4) (s : Fin 256) :
    (outsAt0 m c t.val t.isLt).1 (ix2 b s) = loss (kArgs m c) (tok b s) := by
  have H := after_all m c (t.val - 1) (by omega) (by omega)
  have hr : t.val - 1 + 1 = t.val := by omega
  rw [C_loss m c t (by omega) (by omega), lossPieces_apply, loss, sum_cols]
  simp only [(H.tiles m t).lanes, H.hl, hr]
  simp only [← Finset.sum_range_succ]
  rw [Finset.sum_comm, ht, Finset.sum_range]
  refine Finset.sum_congr rfl fun p _ => ?_
  rw [sum_lanes]
  refine Finset.sum_congr rfl fun l _ => Finset.sum_congr rfl fun g _ => ?_
  have e : col p.val ⟨128 * g.val + l.val, by omega⟩ = (⟨1280 * p.val + (128 * g.val + l.val), by omega⟩ : Fin 8960) :=
    Fin.ext (col_val p.val p.isLt _)
  rw [e]

/-- After the last point: the running `g` is the whole of it. -/
theorem last_g (c : Dev nD) (t : Fin cfg0.N) (ht : t.val = 6) (u : Fin 1024) (r : Fin 24) :
    k0_pay3 (k0_pay33 (outsAt0 m c (t.val - 1) (by omega)).2.2.2.2.1 (eAt m c t)
          (outsAt0 m c (t.val - 1) (by omega)).2.2.2.2.2.2.1 (iblk m c 6 t) (outsAt0 m c (t.val - 1) (by omega)).2.2.2.2.2.1)
        (outsAt0 m c (t.val - 1) (by omega)).2.1 (iblk m c 6 t) (ix2 u r) = gmat (kArgs m c) u r := by
  have H := after_all m c (t.val - 1) (by omega) (by omega)
  have hr : t.val - 1 + 1 = t.val := by omega
  rw [(H.tiles m t).g, H.hg, hr, ← Finset.sum_range_succ, ht, Finset.sum_range, gmat, sum_cols]
  refine Finset.sum_congr rfl fun p _ => Finset.sum_congr rfl fun j _ => ?_
  have e : col p.val j = (⟨1280 * p.val + j.val, by omega⟩ : Fin 8960) := Fin.ext (col_val p.val p.isLt _)
  rw [e]

/-- After the last point: the gradient of the left factor. -/
theorem last_da (c : Dev nD) (t : Fin cfg0.N) (ht : t.val = 6) (d : Fin 1536) (r : Fin 24) :
    (outsAt0 m c t.val t.isLt).2.2.1 (ix2 d r) = dA (kArgs m c) d r := by
  have H := after_all m c (t.val - 1) (by omega) (by omega)
  rw [C_da m c t (by omega) (by omega), pay20_apply, dA]
  refine congrArg (negTwo * ·) (Finset.sum_congr rfl fun u _ => ?_)
  rw [last_g m c t ht, H.hx, ld_ix2 (i := u) (j := ⟨r.val, by omega⟩) _ _ _ _ _ _ (by omega) (by show r.val = 0 + r.val; omega), H.hs]

/-- After every point: the block of the right factor's gradient. -/
theorem all_db (c : Dev nD) (t : Fin cfg0.N) (r : Fin 24) (j : Fin 1280) :
    (outsAt0 m c t.val t.isLt).2.2.2.1 (ix2 r j) = dB (kArgs m c) r (col t.val j) := by
  have hN : t.val < 7 := lt_of_lt_of_eq t.isLt N_0
  by_cases h : t.val = 6
  · have H := after_all m c (t.val - 1) (by omega) (by omega)
    rw [C_db m c t (by omega) (by omega), (H.tiles m t).db]
  · exact (after_all m c t.val t.isLt (by omega)).hd r j

end Cert.LowRank
-- ==== Proof.KernelValue.lean ====
/- The kernel's results, as the mathematics of its arguments. -/
module

public import proofs.«01_k».proof.Proof.Fold
public import proofs.«01_k».proof.Proof.Gen.KernelIdeal.Value

@[expose] public section

set_option maxRecDepth 16384

noncomputable section

namespace Cert.LowRank

open Idealize.ShloMosaic Idealize.ShloMosaic.TcCoe Cert.KernelIdeal Cert.KernelIdeal.Gen
open Cert.KernelIdeal.Value (G7 G8 G9 G10 G7_last G8_last G9_last outsAt0_sweep)
open scoped BigOperators

variable (m : (ℓ : Loc nD τ sig) → Buf (Elt Ideal) ℓ)

/-- Six is a point of the grid. -/
theorem six_lt : 6 < cfg0.N := lt_of_lt_of_eq (by decide) N_0.symm

/-- The kernel's loss. -/
theorem G7_eq (c : Dev nD) : G7 m c = lossArr (kArgs m c) := by
  rw [G7_last, ← outsAt0_sweep m c 6 six_lt]
  exact ext_ix2 fun b s => last_loss m c ⟨6, six_lt⟩ rfl b s

/-- The kernel's residual through the right factor. -/
theorem G8_eq (c : Dev nD) : G8 m c = gArr (kArgs m c) := by
  rw [G8_last, ← outsAt0_sweep m c 6 six_lt]
  refine ext_ix2 fun t r => ?_
  have e := C_g m c ⟨6, six_lt⟩ (by decide) rfl
  exact (congrFun e (ix2 t r)).trans (last_g m c ⟨6, six_lt⟩ rfl t r)

/-- The kernel's gradient of the left factor. -/
theorem G9_eq (c : Dev nD) : G9 m c = dAArr (kArgs m c) := by
  rw [G9_last, ← outsAt0_sweep m c 6 six_lt]
  exact ext_ix2 fun d r => last_da m c ⟨6, six_lt⟩ rfl d r

/-- The kernel's gradient of the right factor. -/
theorem G10_eq (c : Dev nD) : G10 m c = dBArr (kArgs m c) := by
  refine ext_ix2 fun r n => ?_
  have hp : Cert.KernelIdeal.Value.pt10Of (ix2 r n) = n.val / 1280 := by
    show 7 * (r.val / 24 - 0) + 1 * (n.val / 1280 - 0) = _
    omega
  have hl : Cert.KernelIdeal.Value.loc10Of (ix2 r n) = ix2 r (⟨n.val % 1280, by omega⟩ : Fin 1280) :=
    eq_ix2_of _ _ _ (by show r.val % 24 = r.val; omega) rfl
  have hlt : Cert.KernelIdeal.Value.pt10Of (ix2 r n) < cfg0.N := by
    rw [hp]; exact lt_of_lt_of_eq (by omega) N_0.symm
  have hc : col (n.val / 1280) ⟨n.val % 1280, by omega⟩ = n :=
    Fin.ext ((col_val _ (by omega) _).trans (by show 1280 * (n.val / 1280) + n.val % 1280 = n.val; omega))
  unfold Cert.KernelIdeal.Value.G10
  rw [dif_pos hlt, ← outsAt0_sweep m c _ hlt, hl]
  refine (all_db m c ⟨_, hlt⟩ r _).trans ?_
  show dB (kArgs m c) r (col (Cert.KernelIdeal.Value.pt10Of (ix2 r n)) _) = dB (kArgs m c) r n
  rw [hp, hc]

/-- What a run of the kernel leaves: the four results as the mathematics of its arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = lossArr (kArgs m c)
      ∧ r.2.mem ((c : Thread nD τ).loc main_v1_1) = gArr (kArgs m c)
      ∧ r.2.mem ((c : Thread nD τ).loc main_v1_2) = dAArr (kArgs m c)
      ∧ r.2.mem ((c : Thread nD τ).loc main_v1_3) = dBArr (kArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine θ_run_mono (Cert.KernelIdeal.Value.run m ρ) (fun r h c => ?_)
  obtain ⟨h0, h1, h2, h3, hs⟩ := h c
  exact ⟨h0.trans (G7_eq m c), h1.trans (G8_eq m c), h2.trans (G9_eq m c), h3.trans (G10_eq m c), hs⟩

end Cert.LowRank
-- ==== Proof.RefRead.lean ====
/- What the reference computes, read at an index over the extended reals. -/
module

public import proofs.«01_k».proof.Proof.Spec
public import proofs.«01_k».proof.Proof.Gen.ReferenceIdeal.Read
public import Idealize.ShloMosaic.Lib.Pointwise

@[expose] public section

set_option maxRecDepth 16384

noncomputable section

namespace Cert.LowRank.Ref

open Idealize.ShloMosaic Cert.ReferenceIdeal Cert.ReferenceIdeal.Gen Cert.ReferenceIdeal.Read
open scoped BigOperators

variable (x0 : Vec Ideal S4x256x1536 .bf16) (x1 : Vec Ideal S4x256 .f32) (x2 : Vec Ideal S1536x8960 .bf16)
  (x3 : Vec Ideal S768x8960 .i8) (x4 : Vec Ideal S12x8960 .bf16) (x5 : Vec Ideal S1536x24 .bf16) (x6 : Vec Ideal S24x8960 .bf16)

/-- The arguments as functions of their coordinates. -/
abbrev args : Args := mkArgs x0 x1 x2 x3 x4 x5 x6

/-- The scale of a token. -/
theorem sc_tok (b : Fin 4) (s : Fin 256) : (args x0 x1 x2 x3 x4 x5 x6).sc (tok b s) = x1 (ix2 b s) := by
  have h1 : (⟨(tok b s).val / 256, by omega⟩ : Fin 4) = b := Fin.ext (by show (256 * b.val + s.val) / 256 = b.val; omega)
  have h2 : (⟨(tok b s).val % 256, by omega⟩ : Fin 256) = s := Fin.ext (by show (256 * b.val + s.val) % 256 = s.val; omega)
  show x1 (ix2 _ _) = _
  rw [h1, h2]

/-- A token. -/
theorem X_tok (b : Fin 4) (s : Fin 256) (k : Fin 1536) :
    (args x0 x1 x2 x3 x4 x5 x6).X (tok b s) k = x0 (ix3 b s k) := by
  have h1 : (⟨(tok b s).val / 256, by omega⟩ : Fin 4) = b := Fin.ext (by show (256 * b.val + s.val) / 256 = b.val; omega)
  have h2 : (⟨(tok b s).val % 256, by omega⟩ : Fin 256) = s := Fin.ext (by show (256 * b.val + s.val) % 256 = s.val; omega)
  show x0 (ix3 _ _ k) = _
  rw [h1, h2]

/-- The error field's first half. -/
theorem v22_eq (k : Fin 768) (n : Fin 8960) :
    val_main_v22 (F := Ideal) x2 x3 x4 (ix2 k n) = err (args x0 x1 x2 x3 x4 x5 x6) ⟨k.val, by omega⟩ n := by
  have h : code (args x0 x1 x2 x3 x4 x5 x6) ⟨k.val, by omega⟩ n = loCode (x3 (ix2 k n)) := dif_pos k.isLt
  rw [err, h]
  unfold val_main_v22 val_main_v21 val_main_v20 val_main_v19 val_main_v18 val_main_v17 val_main_v16 val_main_v7
    val_main_v6 val_main_v5 val_main_v4 val_main_v3 val_main_v2 val_main_v1 val_main_c val_main_c_0 val_main_c_1
  pointwise
  rfl

/-- The error field's second half. -/
theorem v29_eq (k : Fin 768) (n : Fin 8960) :
    val_main_v29 (F := Ideal) x2 x3 x4 (ix2 k n) = err (args x0 x1 x2 x3 x4 x5 x6) ⟨768 + k.val, by omega⟩ n := by
  have h : code (args x0 x1 x2 x3 x4 x5 x6) ⟨768 + k.val, by omega⟩ n = hiCode (x3 (ix2 k n)) := by
    rw [code, dif_neg (by show ¬ 768 + k.val < 768; omega)]
    have e : (⟨768 + k.val - 768, by omega⟩ : Fin 768) = k := Fin.ext (by show 768 + k.val - 768 = k.val; omega)
    rw [e]; rfl
  have h2 : (⟨(768 + k.val) / 128, by omega⟩ : Fin 12) = ⟨6 + k.val / 128, by omega⟩ := Fin.ext (by show (768 + k.val) / 128 = 6 + k.val / 128; omega)
  rw [err, h, h2]
  unfold val_main_v29 val_main_v28 val_main_v27 val_main_v26 val_main_v25 val_main_v24 val_main_v23 val_main_v15
    val_main_v14 val_main_v13 val_main_v12 val_main_v11 val_main_v10 val_main_v9 val_main_v8 val_main_v1 val_main_c_2
    val_main_c_3 val_main_c_4 val_main_c_5
  pointwise
  rfl

/-- The projection. -/
theorem v41_eq (b : Fin 4) (s : Fin 256) (r : Fin 24) :
    val_main_v41 (F := Ideal) x1 x5 x0 (ix3 b s r) = proj (args x0 x1 x2 x3 x4 x5 x6) (tok b s) r := by
  rw [proj, sc_tok]
  simp only [X_tok]
  unfold val_main_v41 val_main_v40 val_main_v39 val_main_v38 val_main_v30
  pointwise
  rfl

/-- The residual. -/
theorem v43_eq (b : Fin 4) (s : Fin 256) (n : Fin 8960) :
    val_main_v43 (F := Ideal) x1 x2 x3 x4 x5 x6 x0 (ix3 b s n) = resid (args x0 x1 x2 x3 x4 x5 x6) (tok b s) n := by
  rw [resid, sc_tok, sum_halves]
  simp only [X_tok, ← v22_eq x0 x1 x2 x3 x4 x5 x6, ← v29_eq x0 x1 x2 x3 x4 x5 x6, ← v41_eq x0 x1 x2 x3 x4 x5 x6]
  unfold val_main_v43 val_main_v42 val_main_v37 val_main_v36 val_main_v35 val_main_v34 val_main_v33 val_main_v32
    val_main_v31 val_main_v30
  generalize val_main_v22 (F := Ideal) x2 x3 x4 = e1
  generalize val_main_v29 (F := Ideal) x2 x3 x4 = e2
  generalize val_main_v41 (F := Ideal) x1 x5 x0 = p
  pointwise
  rfl

/-- The reference's loss. -/
theorem v45_eq (b : Fin 4) (s : Fin 256) :
    val_main_v45 (F := Ideal) x1 x2 x3 x4 x5 x6 x0 (ix2 b s) = loss (args x0 x1 x2 x3 x4 x5 x6) (tok b s) := by
  rw [loss]
  simp only [← v43_eq x0 x1 x2 x3 x4 x5 x6]
  unfold val_main_v45 val_main_v44 val_main_cst
  generalize val_main_v43 (F := Ideal) x1 x2 x3 x4 x5 x6 x0 = R
  pointwise

/-- The residual through the right factor. -/
theorem v47_eq (b : Fin 4) (s : Fin 256) (r : Fin 24) :
    val_main_v47 (F := Ideal) x1 x2 x3 x4 x5 x6 x0 (ix3 b s r) = gmat (args x0 x1 x2 x3 x4 x5 x6) (tok b s) r := by
  rw [gmat]
  simp only [← v43_eq x0 x1 x2 x3 x4 x5 x6]
  unfold val_main_v47 val_main_v46
  generalize val_main_v43 (F := Ideal) x1 x2 x3 x4 x5 x6 x0 = R
  pointwise
  rfl

/-- The same laid out by token. -/
theorem v57_eq (t : Fin 1024) (r : Fin 24) :
    val_main_v57 (F := Ideal) x1 x2 x3 x4 x5 x6 x0 (ix2 t r) = gmat (args x0 x1 x2 x3 x4 x5 x6) t r := by
  have ht : tok ⟨t.val / 256, by omega⟩ ⟨t.val % 256, by omega⟩ = t := Fin.ext (by
    show 256 * (t.val / 256) + t.val % 256 = t.val; omega)
  conv_rhs => rw [← ht]
  rw [← v47_eq]
  unfold val_main_v57
  generalize val_main_v47 (F := Ideal) x1 x2 x3 x4 x5 x6 x0 = g
  pointwise

/-- The gradient of the left factor. -/
theorem v53_eq (d : Fin 1536) (r : Fin 24) :
    val_main_v53 (F := Ideal) x1 x2 x3 x4 x5 x6 x0 (ix2 d r) = dA (args x0 x1 x2 x3 x4 x5 x6) d r := by
  rw [dA, sum_tok]
  simp only [X_tok, sc_tok, ← v47_eq x0 x1 x2 x3 x4 x5 x6]
  unfold val_main_v53 val_main_v52 val_main_v51 val_main_v50 val_main_v49 val_main_v48 val_main_v30 val_main_cst_6
  generalize val_main_v47 (F := Ideal) x1 x2 x3 x4 x5 x6 x0 = g
  pointwise
  rfl

/-- The gradient of the right factor. -/
theorem v56_eq (r : Fin 24) (n : Fin 8960) :
    val_main_v56 (F := Ideal) x1 x2 x3 x4 x5 x6 x0 (ix2 r n) = dB (args x0 x1 x2 x3 x4 x5 x6) r n := by
  rw [dB, sum_tok]
  simp only [← v41_eq x0 x1 x2 x3 x4 x5 x6, ← v43_eq x0 x1 x2 x3 x4 x5 x6]
  unfold val_main_v56 val_main_v55 val_main_v54 val_main_v46 val_main_cst_7
  generalize val_main_v41 (F := Ideal) x1 x5 x0 = p
  generalize val_main_v43 (F := Ideal) x1 x2 x3 x4 x5 x6 x0 = R
  pointwise
  rfl

end Cert.LowRank.Ref
-- ==== Proof.RefValue.lean ====
/- The reference's results, as the mathematics of its arguments. -/
module

public import proofs.«01_k».proof.Proof.RefRead
public import proofs.«01_k».proof.Proof.Gen.ReferenceIdeal.Run
public import Idealize.ShloMosaic.Lib.Pipeline.ValueKit

@[expose] public section

set_option maxRecDepth 16384

noncomputable section

namespace Cert.LowRank.Ref

open Idealize.ShloMosaic Idealize.ShloMosaic.TcCoe Cert.ReferenceIdeal Cert.ReferenceIdeal.Gen Cert.ReferenceIdeal.Read
open scoped BigOperators

variable (m : (ℓ : Loc nD τ sig) → Buf (Elt Ideal) ℓ)

/-- The reference's arguments as functions of their coordinates. -/
def rArgs (c : Dev nD) : Args :=
  mkArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The cast of the tokens keeps them. -/
theorem widen_apply (x : Vec Ideal S4x256x1536 .fp8e4m3) (y : S4x256x1536.Idx) : k0_pay1 x y = x y := by
  unfold_payloads
  rfl

/-- The block index of window 0: its one block is the whole array. -/
theorem idx0 : ∀ t : Fin cfg0.N, win0_0.index t = ![0, 0, 0] := by decide +kernel
/-- The block index of window 1: its one block is the whole array. -/
theorem idx1 : ∀ t : Fin cfg0.N, win0_1.index t = ![0, 0, 0] := by decide +kernel

/-- The array of cast tokens is the token argument. -/
theorem reg_tokens (c : Dev nD) :
    Cert.ReferenceIdeal.Value.reg_main_v0 m c = (m ((c : Thread nD τ).loc main_arg0) : S4x256x1536.Idx → EReal) := by
  refine (dats m 0 c).arrAt_eq_of_covers 1 _ (by decide +kernel) fun t hf y => ?_
  blk_simp
  rw [after0_1]
  frame_out
  rw [widen_apply, ← V_main_arg0 m c]
  blk_ext [iblk, idx0, idx1]

open Cert.ReferenceIdeal.Value (exitV exit_main_arg1 exit_main_arg2 exit_main_arg3 exit_main_arg4 exit_main_arg5 exit_main_arg6 exit_main_v0)

/-- The reference's loss. -/
theorem res_loss (c : Dev nD) :
    val_main_v45 (F := Ideal) (exitV m c (Proc.devRef .tc main_arg1)) (exitV m c (Proc.devRef .tc main_arg2))
      (exitV m c (Proc.devRef .tc main_arg3)) (exitV m c (Proc.devRef .tc main_arg4)) (exitV m c (Proc.devRef .tc main_arg5))
      (exitV m c (Proc.devRef .tc main_arg6)) (exitV m c (Proc.devRef .tc main_v0)) = lossArr (rArgs m c) := by
  rw [exit_main_arg1, exit_main_arg2, exit_main_arg3, exit_main_arg4, exit_main_arg5, exit_main_arg6, exit_main_v0, reg_tokens]
  exact ext_ix2 fun i j => v45_eq _ _ _ _ _ _ _ i j

/-- The reference's residual through the right factor. -/
theorem res_g (c : Dev nD) :
    val_main_v57 (F := Ideal) (exitV m c (Proc.devRef .tc main_arg1)) (exitV m c (Proc.devRef .tc main_arg2))
      (exitV m c (Proc.devRef .tc main_arg3)) (exitV m c (Proc.devRef .tc main_arg4)) (exitV m c (Proc.devRef .tc main_arg5))
      (exitV m c (Proc.devRef .tc main_arg6)) (exitV m c (Proc.devRef .tc main_v0)) = gArr (rArgs m c) := by
  rw [exit_main_arg1, exit_main_arg2, exit_main_arg3, exit_main_arg4, exit_main_arg5, exit_main_arg6, exit_main_v0, reg_tokens]
  exact ext_ix2 fun i j => v57_eq _ _ _ _ _ _ _ i j

/-- The reference's gradient of the left factor. -/
theorem res_dA (c : Dev nD) :
    val_main_v53 (F := Ideal) (exitV m c (Proc.devRef .tc main_arg1)) (exitV m c (Proc.devRef .tc main_arg2))
      (exitV m c (Proc.devRef .tc main_arg3)) (exitV m c (Proc.devRef .tc main_arg4)) (exitV m c (Proc.devRef .tc main_arg5))
      (exitV m c (Proc.devRef .tc main_arg6)) (exitV m c (Proc.devRef .tc main_v0)) = dAArr (rArgs m c) := by
  rw [exit_main_arg1, exit_main_arg2, exit_main_arg3, exit_main_arg4, exit_main_arg5, exit_main_arg6, exit_main_v0, reg_tokens]
  exact ext_ix2 fun i j => v53_eq _ _ _ _ _ _ _ i j

/-- The reference's gradient of the right factor. -/
theorem res_dB (c : Dev nD) :
    val_main_v56 (F := Ideal) (exitV m c (Proc.devRef .tc main_arg1)) (exitV m c (Proc.devRef .tc main_arg2))
      (exitV m c (Proc.devRef .tc main_arg3)) (exitV m c (Proc.devRef .tc main_arg4)) (exitV m c (Proc.devRef .tc main_arg5))
      (exitV m c (Proc.devRef .tc main_arg6)) (exitV m c (Proc.devRef .tc main_v0)) = dBArr (rArgs m c) := by
  rw [exit_main_arg1, exit_main_arg2, exit_main_arg3, exit_main_arg4, exit_main_arg5, exit_main_arg6, exit_main_v0, reg_tokens]
  exact ext_ix2 fun i j => v56_eq _ _ _ _ _ _ _ i j

/-- What a run of the reference leaves: the four results as the mathematics of its arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v45) = lossArr (rArgs m c)
      ∧ r.2.mem ((c : Thread nD τ).loc main_v57) = gArr (rArgs m c)
      ∧ r.2.mem ((c : Thread nD τ).loc main_v53) = dAArr (rArgs m c)
      ∧ r.2.mem ((c : Thread nD τ).loc main_v56) = dBArr (rArgs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine θ_run_mono (Cert.ReferenceIdeal.Value.run m ρ) (fun r h c => ?_)
  obtain ⟨h0, h1, h2, h3, hs⟩ := h c
  exact ⟨h0.trans ((val_main_v45_eq _).trans (res_loss m c)), h1.trans ((val_main_v57_eq _).trans (res_g m c)),
    h2.trans ((val_main_v53_eq _).trans (res_dA m c)), h3.trans ((val_main_v56_eq _).trans (res_dB m c)), hs⟩

end Cert.LowRank.Ref
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Memories that agree on the seven arguments give the two programs the same arguments as functions of coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.LowRank.Ref.rArgs m' c = Cert.LowRank.kArgs m c := by
  unfold Cert.LowRank.Ref.rArgs Cert.LowRank.kArgs
  rw [h0, h1, h2, h3, h4, h5, h6]

/-- Over the extended reals the kernel and the reference, run on the same arguments, leave the same loss, the same `g`
    and the same two gradients: both leave the mathematics of Spec.lean. -/
theorem algebraic : Cert.algebraic_KernelIdeal_ReferenceIdeal (hKernelIdeal := Cert.KernelIdeal.Gen.facts)
    (hReferenceIdeal := Cert.ReferenceIdeal.Gen.facts) := by
  intro m g m' g' _ hargs
  have e : ∀ c : Dev Cert.KernelIdeal.nD, Cert.LowRank.Ref.rArgs m' c = Cert.LowRank.kArgs m c := fun c => by
    obtain ⟨h0, h1, h2, h3, h4, h5, h6⟩ := hargs c
    exact args_eq m m' c h0 h1 h2 h3 h4 h5 h6
  refine ⟨fun c => Cert.LowRank.lossArr (Cert.LowRank.kArgs m c), fun c => Cert.LowRank.gArr (Cert.LowRank.kArgs m c),
    fun c => Cert.LowRank.dAArr (Cert.LowRank.kArgs m c), fun c => Cert.LowRank.dBArr (Cert.LowRank.kArgs m c),
    Cert.LowRank.run m g, ?_⟩
  refine θ_run_mono (Cert.LowRank.Ref.run m' g') (fun r h c => ?_)
  obtain ⟨h0, h1, h2, h3, hs⟩ := h c
  rw [e c] at h0 h1 h2 h3
  exact ⟨h0, h1, h2, h3, hs⟩

/-- Everything claimed: the three programs run to their end and touch nothing but their results; the idealized kernel is
    the kernel with its floats read as extended reals; and it computes what the reference computes. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
